-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2048x4 : Shape := ⟨2, ![2048, 4]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S512x1536 : Shape := ⟨2, ![512, 1536]⟩
abbrev S1x1536 : Shape := ⟨2, ![1, 1536]⟩
abbrev S2048x1536 : Shape := ⟨2, ![2048, 1536]⟩
abbrev S256x512 : Shape := ⟨2, ![256, 512]⟩
abbrev S256x1536 : Shape := ⟨2, ![256, 1536]⟩
abbrev S2048x3x8x64 : Shape := ⟨4, ![2048, 3, 8, 64]⟩
abbrev S2048x1x8x64 : Shape := ⟨4, ![2048, 1, 8, 64]⟩
abbrev S2048x8x64 : Shape := ⟨3, ![2048, 8, 64]⟩
abbrev S8x2048x64 : Shape := ⟨3, ![8, 2048, 64]⟩
abbrev S2048x1 : Shape := ⟨2, ![2048, 1]⟩
abbrev S2048 : Shape := ⟨1, ![2048]⟩
abbrev S1x2048 : Shape := ⟨2, ![1, 2048]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S1x256 : Shape := ⟨2, ![1, 256]⟩
abbrev S256 : Shape := ⟨1, ![256]⟩
abbrev S256x1 : Shape := ⟨2, ![256, 1]⟩
abbrev S1x512 : Shape := ⟨2, ![1, 512]⟩

abbrev nBuf : Space → Nat
  | .hbm => 28
  | .vmem => 21
  | .smem => 0
  | _ => 0

abbrev bufTy : (tb : Table) → Fin (tcTables nBuf tb) → BufTy
  | .hbm, ⟨0, _⟩ => ⟨S2048x512, .f32⟩
  | .hbm, ⟨1, _⟩ => ⟨S2048x4, .i32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S512x1536, .f32⟩
  | .hbm, ⟨7, _⟩ => ⟨S1x1536, .f32⟩
  | .hbm, ⟨8, _⟩ => ⟨S2048x1536, .f32⟩
  | .hbm, ⟨9, _⟩ => ⟨S2048x3x8x64, .f32⟩
  | .hbm, ⟨10, _⟩ => ⟨S2048x1x8x64, .f32⟩
  | .hbm, ⟨11, _⟩ => ⟨S2048x8x64, .f32⟩
  | .hbm, ⟨12, _⟩ => ⟨S8x2048x64, .f32⟩
  | .hbm, ⟨13, _⟩ => ⟨S2048x1x8x64, .f32⟩
  | .hbm, ⟨14, _⟩ => ⟨S2048x8x64, .f32⟩
  | .hbm, ⟨15, _⟩ => ⟨S8x2048x64, .f32⟩
  | .hbm, ⟨16, _⟩ => ⟨S2048x1x8x64, .f32⟩
  | .hbm, ⟨17, _⟩ => ⟨S2048x8x64, .f32⟩
  | .hbm, ⟨18, _⟩ => ⟨S8x2048x64, .f32⟩
  | .hbm, ⟨19, _⟩ => ⟨S2048x1, .i32⟩
  | .hbm, ⟨20, _⟩ => ⟨S2048, .i32⟩
  | .hbm, ⟨21, _⟩ => ⟨S1x2048, .i32⟩
  | .hbm, ⟨22, _⟩ => ⟨S8x2048x64, .f32⟩
  | .hbm, ⟨23, _⟩ => ⟨S2048x8x64, .f32⟩
  | .hbm, ⟨24, _⟩ => ⟨S2048x512, .f32⟩
  | .hbm, ⟨25, _⟩ => ⟨S512x512, .f32⟩
  | .hbm, ⟨26, _⟩ => ⟨S1x512, .f32⟩
  | .hbm, ⟨27, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S512x1536, .f32⟩
  | .local _ .vmem, ⟨3, _⟩ => ⟨S1x1536, .f32⟩
  | .local _ .vmem, ⟨4, _⟩ => ⟨S256x1536, .f32⟩
  | .local _ .vmem, ⟨5, _⟩ => ⟨S256x1536, .f32⟩
  | .local _ .vmem, ⟨6, _⟩ => ⟨S1x2048, .i32⟩
  | .local _ .vmem, ⟨7, _⟩ => ⟨S1x256x64, .f32⟩
  | .local _ .vmem, ⟨8, _⟩ => ⟨S1x256x64, .f32⟩
  | .local _ .vmem, ⟨9, _⟩ => ⟨S1x2048x64, .f32⟩
  | .local _ .vmem, ⟨10, _⟩ => ⟨S1x2048x64, .f32⟩
  | .local _ .vmem, ⟨11, _⟩ => ⟨S1x2048x64, .f32⟩
  | .local _ .vmem, ⟨12, _⟩ => ⟨S1x2048x64, .f32⟩
  | .local _ .vmem, ⟨13, _⟩ => ⟨S1x256x64, .f32⟩
  | .local _ .vmem, ⟨14, _⟩ => ⟨S1x256x64, .f32⟩
  | .local _ .vmem, ⟨15, _⟩ => ⟨S256x512, .f32⟩
  | .local _ .vmem, ⟨16, _⟩ => ⟨S256x512, .f32⟩
  | .local _ .vmem, ⟨17, _⟩ => ⟨S512x512, .f32⟩
  | .local _ .vmem, ⟨18, _⟩ => ⟨S1x512, .f32⟩
  | .local _ .vmem, ⟨19, _⟩ => ⟨S256x512, .f32⟩
  | .local _ .vmem, ⟨20, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_off1 (i : grid1.Coords) : Fin 2 → Nat :=
  let c0_9 : Index := 0#32
  let arg1 : BitVec 32 := BitVec.ofNat 32 (i 1).val
  let c256_i32 : BitVec 32 := 256#32
  let v9 : BitVec 32 := Scalar.muli arg1 c256_i32
  let v10 : Index := Scalar.indexCast v9
  ![0, v10.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S1x2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S2048x512 : Shape := ⟨2, ![2048, 512]⟩
abbrev S2048x4 : Shape := ⟨2, ![2048, 4]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S512x1536 : Shape := ⟨2, ![512, 1536]⟩
abbrev S2048x1536 : Shape := ⟨2, ![2048, 1536]⟩
abbrev S1x1536 : Shape := ⟨2, ![1, 1536]⟩
abbrev S2048x3x8x64 : Shape := ⟨4, ![2048, 3, 8, 64]⟩
abbrev S2048x1x8x64 : Shape := ⟨4, ![2048, 1, 8, 64]⟩
abbrev S2048x8x64 : Shape := ⟨3, ![2048, 8, 64]⟩
abbrev S2048x1 : Shape := ⟨2, ![2048, 1]⟩
abbrev S2048 : Shape := ⟨1, ![2048]⟩
abbrev S1x2048 : Shape := ⟨2, ![1, 2048]⟩
abbrev S2048x2048 : Shape := ⟨2, ![2048, 2048]⟩
abbrev S8x2048x2048 : Shape := ⟨3, ![8, 2048, 2048]⟩
abbrev S_ : Shape := ⟨0, ![]⟩
abbrev S1x2048x2048 : Shape := ⟨3, ![1, 2048, 2048]⟩
abbrev S8x2048 : Shape := ⟨2, ![8, 2048]⟩
abbrev S8x2048x1 : Shape := ⟨3, ![8, 2048, 1]⟩
abbrev S8x64x2048 : Shape := ⟨3, ![8, 64, 2048]⟩
abbrev S1x512 : Shape := ⟨2, ![1, 512]⟩

abbrev nBuf : Space → Nat
  | .hbm => 57
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x4, .i32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S512x1536, .f32⟩
  | .hbm, ⟨7, _⟩ => ⟨S2048x1536, .f32⟩
  | .hbm, ⟨8, _⟩ => ⟨S1x1536, .f32⟩
  | .hbm, ⟨9, _⟩ => ⟨S2048x1536, .f32⟩
  | .hbm, ⟨10, _⟩ => ⟨S2048x1536, .f32⟩
  | .hbm, ⟨11, _⟩ => ⟨S2048x3x8x64, .f32⟩
  | .hbm, ⟨12, _⟩ => ⟨S2048x1x8x64, .f32⟩
  | .hbm, ⟨13, _⟩ => ⟨S2048x8x64, .f32⟩
  | .hbm, ⟨14, _⟩ => ⟨S2048x1x8x64, .f32⟩
  | .hbm, ⟨15, _⟩ => ⟨S2048x8x64, .f32⟩
  | .hbm, ⟨16, _⟩ => ⟨S2048x1x8x64, .f32⟩
  | .hbm, ⟨17, _⟩ => ⟨S2048x8x64, .f32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S8x64x2048, .f32⟩
  | .hbm, ⟨50, _⟩ => ⟨S2048x8x64, .f32⟩
  | .hbm, ⟨51, _⟩ => ⟨S2048x512, .f32⟩
  | .hbm, ⟨52, _⟩ => ⟨S512x512, .f32⟩
  | .hbm, ⟨53, _⟩ => ⟨S2048x512, .f32⟩
  | .hbm, ⟨54, _⟩ => ⟨S1x512, .f32⟩
  | .hbm, ⟨55, _⟩ => ⟨S2048x512, .f32⟩
  | .hbm, ⟨56, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Proof.Run.lean ====
/- The run of the kernel's @main with its result: what `Gen.frame` shows, and the result array at the last boundary's
   contents. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from zero counters terminates with the result array at the contents of the last
    boundary, the argument arrays as launched and every counter at zero. -/
theorem run_result : θ_run defs (onTc (τ := τ) (main (F := F))) ⟨m, fun _ => 0, ρ⟩ (fun r => (∀ c : Dev nD,
      r.2.mem ((c.tc : Thread nD τ).loc main_v21) = W6 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v21 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩), funext fun g => hz g (.inr (no_unscoped g.2))⟩)

end Cert.KernelIdeal.Gen

end
-- ==== Proof.Spec.lean ====
/- What one linear layer and one masked attention compute over the extended reals, entry by entry: the functions that
   both programs are shown to compute. -/
module

public import Idealize.ShloMosaic.PureOps.Ideal
public import Idealize.ShloMosaic.Lib.Pointwise

@[expose] public section

noncomputable section

namespace Cert.Attention

open Idealize.ShloMosaic

/-- A linear layer with a row of biases: entry `(i, o)` is `∑ k, x i k * w k o + b o`. -/
def linear {K N : ℕ} (x : FVec Ideal ⟨2, ![2048, K]⟩ .f32) (w : FVec Ideal ⟨2, ![K, N]⟩ .f32)
    (b : FVec Ideal ⟨2, ![1, N]⟩ .f32) : FVec Ideal ⟨2, ![2048, N]⟩ .f32 :=
  fun j => (∑ k : Fin K, x (ix2 (j 0) k) * w (ix2 k (j 1))) + b (ix2 0 (j 1))

/-- The score of a query row `q` of batch number `γ` against key row `l`: the scaled inner product where the key has the
    same batch number, the mask's value elsewhere. -/
def score (γ : BitVec 32) (g : Fin 2048 → BitVec 32) (q : Fin 64 → EReal) (k : Fin 2048 → Fin 64 → EReal) (l : Fin 2048) :
    EReal :=
  if γ = g l then (∑ d : Fin 64, q d * k l d) * Ideal.ofBits .f32 0x3E000000#32 else Ideal.ofBits .f32 0xCE6E6B28#32

/-- The greatest of a row of scores. -/
def top (s : Fin 2048 → EReal) : EReal := Finset.univ.fold max (Ideal.ofBits .f32 0xFF800000#32) s

/-- A row of scores, each less the greatest, exponentiated and divided by the sum of all of them: the softmax. -/
def softmax (s : Fin 2048 → EReal) (l : Fin 2048) : EReal :=
  Ideal.div (Ideal.exp (s l - top s)) (∑ l', Ideal.exp (s l' - top s))

/-- One entry of masked attention: the softmax of a query's scores against all keys, times a column of values. -/
def attendEntry (γ : BitVec 32) (g : Fin 2048 → BitVec 32) (q : Fin 64 → EReal) (k : Fin 2048 → Fin 64 → EReal)
    (v : Fin 2048 → EReal) : EReal :=
  ∑ l : Fin 2048, softmax (score γ g q k) l * v l

/-- Masked attention, head by head, of queries, keys and values laid out as (head, token, lane). -/
def attend (g : IVec ⟨2, ![1, 2048]⟩ 32) (q k v : FVec Ideal ⟨3, ![8, 2048, 64]⟩ .f32) : FVec Ideal ⟨3, ![8, 2048, 64]⟩ .f32 :=
  fun j => attendEntry (g (ix2 0 (j 1))) (fun l => g (ix2 0 l)) (fun d => q (ix3 (j 0) (j 1) d))
    (fun l d => k (ix3 (j 0) l d)) (fun l => v (ix3 (j 0) l (j 2)))

/-- A selection on the equality of two words is a case distinction. -/
theorem select_eq (a b : BitVec 32) (x y : EReal) :
    Scalar.select (IntOp.cmpi CmpIPredicate.eq a b) x y = if a = b then x else y := by
  by_cases h : a = b
  · simp [Scalar.select, IntOp.cmpi, h]
  · have hb : (a == b) = false := by simp [h]
    simp [Scalar.select, IntOp.cmpi, hb, h]

/-- Taking the maximum with the fold's start once more changes nothing. -/
theorem max_top (s : Fin 2048 → EReal) : max (Ideal.ofBits .f32 0xFF800000#32) (top s) = top s :=
  max_eq_right (Finset.le_fold_max _ |>.2 (Or.inl le_rfl))

end Cert.Attention

end
-- ==== Proof.Payload.lean ====
/- What each kernel body computes of one block, read at an index. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.Attention

open Idealize.ShloMosaic Cert.KernelIdeal Cert.KernelIdeal.Gen

/-- The first projection's body at row `r` of its block, output `o`. -/
theorem proj_block (x : FVec Ideal S256x512 .f32) (w : FVec Ideal S512x1536 .f32) (b : FVec Ideal S1x1536 .f32)
    (r : Fin 256) (o : Fin 1536) :
    k0_pay1 (F := Ideal) x w b (ix2 r o) = (∑ k : Fin 512, x (ix2 r k) * w (ix2 k o)) + b (ix2 0 o) := by
  pointwise [k0_pay1]

/-- The output projection's body at row `r` of its block, output `o`. -/
theorem out_block (x : FVec Ideal S256x512 .f32) (w : FVec Ideal S512x512 .f32) (b : FVec Ideal S1x512 .f32)
    (r : Fin 256) (o : Fin 512) :
    k2_pay1 (F := Ideal) x w b (ix2 r o) = (∑ k : Fin 512, x (ix2 r k) * w (ix2 k o)) + b (ix2 0 o) := by
  pointwise [k2_pay1]

/-- The attention body at query row `r` of its block, lane `d`: one entry of masked attention against the head's keys and
    values. -/
theorem attn_block (q : FVec Ideal S1x256x64 .f32) (k v : FVec Ideal S1x2048x64 .f32) (gq : IVec S1x256 32) (g : IVec S1x2048 32)
    (r : Fin 256) (d : Fin 64) :
    k1_pay1 (F := Ideal) q k v gq g (ix3 0 r d)
      = attendEntry (gq (ix2 0 r)) (fun l => g (ix2 0 l)) (fun e => q (ix3 0 r e)) (fun l e => k (ix3 0 l e))
          (fun l => v (ix3 0 l d)) := by
  pointwise [k1_pay1]
  simp only [select_eq]
  rfl

end Cert.Attention

end
-- ==== Proof.Region0.lean ====
/- The array that the first projection's region leaves: the linear layer of the arrays that it reads. -/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.Attention

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block of each window at every grid point. -/
theorem idx0 : ∀ t : Fin cfg0.N, win0_0.index t = ![t.val, 0] ∧ win0_1.index t = ![0, 0] ∧ win0_2.index t = ![0, 0]
    ∧ win0_3.index t = ![t.val, 0] := (by decide +kernel : ∀ t : Fin grid0.N, _)

/-- Whatever the buffers hold when the region is entered, its output array ends at the linear layer of its three inputs. -/
theorem final0 (c : Dev nD) : (dat0 V c).arrAt 3 cfg0.N = linear (V c main_arg0) (V c main_v0) (V c main_v1) := by
  refine (dat0 V c).arrAt_eq_of_covers 3 _ (by decide +kernel) fun t _ y => ?_
  blk_simp
  rw [after0_3]; frame_out
  idx_vars y
  rw [proj_block]
  simp only [linear]
  blk_point [iblk0, idx0 t]

end Cert.Attention

end
-- ==== Proof.Region1.lean ====
/- The array that the attention region leaves: masked attention of the arrays that it reads. -/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.Attention

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block of each window at every grid point. -/
theorem idx1 : ∀ t : Fin cfg1.N, win1_0.index t = ![0, 0] ∧ win1_1.index t = ![t.val / 8, t.val % 8, 0]
    ∧ win1_2.index t = ![t.val / 8, 0, 0] ∧ win1_3.index t = ![t.val / 8, 0, 0]
    ∧ win1_4.index t = ![t.val / 8, t.val % 8, 0] := (by decide +kernel : ∀ t : Fin grid1.N, _)

/-- Where the point's 256 batch numbers start. -/
theorem off1 : ∀ t : Fin cfg1.N, k1_off1 (grid1.coords t) = ![0, (t.val % 8) * 256] :=
  (by decide +kernel : ∀ t : Fin grid1.N, _)

/-- The point's batch numbers, loaded from the row of all of them: entry `r` is the row's entry at the point's start plus
    `r`. -/
theorem ids1 (t : Fin cfg1.N) (x : IVec S1x2048 32)
    (h : ∀ a, k1_off1 (grid1.coords t) a + S1x256.size a ≤ S1x2048.size a) (r : Fin 256)
    (hr : (t.val % 8) * 256 + r.val < 2048) :
    View.ld (Val := Elt Ideal) (e' := .i32) x (Rect.unit (s := S1x2048) (k1_off1 (grid1.coords t)) S1x256.size h) (ix2 0 r)
      = x (ix2 0 ⟨(t.val % 8) * 256 + r.val, hr⟩) := by
  have e0 : k1_off1 (grid1.coords t) 0 = 0 := by rw [off1 t]; rfl
  have e1 : k1_off1 (grid1.coords t) 1 = (t.val % 8) * 256 := by rw [off1 t]; rfl
  refine congrArg x (funext fun a => Fin.ext ?_)
  fin_cases a
  · show k1_off1 (grid1.coords t) 0 + 1 * 0 = 0
    omega
  · show k1_off1 (grid1.coords t) 1 + 1 * r.val = (t.val % 8) * 256 + r.val
    omega

/-- Whatever the buffers hold when the region is entered, its output array ends at masked attention of its four inputs. -/
theorem final1 (c : Dev nD) : (dat1 V c).arrAt 4 cfg1.N
    = attend (V c main_v15) (V c main_v6) (V c main_v9) (V c main_v12) := by
  refine (dat1 V c).arrAt_eq_of_covers 4 _ (by decide +kernel) fun t _ y => ?_
  blk_simp
  rw [after1_4]; unfold outsAt1; frame_out
  idx_vars y
  obtain rfl : y0 = 0 := Subsingleton.elim _ _
  rw [attn_block]
  simp only [attend]
  rw [ids1 t _ _ y1 (by have := y1.isLt; omega)]
  blk_point [iblk1, idx1 t]

end Cert.Attention

end
-- ==== Proof.Region2.lean ====
/- The array that the output projection's region leaves: the linear layer of the arrays that it reads. -/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.Attention

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block of each window at every grid point. -/
theorem idx2 : ∀ t : Fin cfg2.N, win2_0.index t = ![t.val, 0] ∧ win2_1.index t = ![0, 0] ∧ win2_2.index t = ![0, 0]
    ∧ win2_3.index t = ![t.val, 0] := (by decide +kernel : ∀ t : Fin grid2.N, _)

/-- Whatever the buffers hold when the region is entered, its output array ends at the linear layer of its three inputs. -/
theorem final2 (c : Dev nD) : (dat2 V c).arrAt 3 cfg2.N = linear (V c main_v18) (V c main_v19) (V c main_v20) := by
  refine (dat2 V c).arrAt_eq_of_covers 3 _ (by decide +kernel) fun t _ y => ?_
  blk_simp
  rw [after2_3]; frame_out
  idx_vars y
  rw [out_block]
  simp only [linear]
  blk_point [iblk2, idx2 t]

end Cert.Attention

end
-- ==== Proof.Value.lean ====
/- The kernel's result: the region outputs composed with the host operations between them. -/
module

public import proofs.«01_k».proof.Proof.Region0
public import proofs.«01_k».proof.Proof.Region1
public import proofs.«01_k».proof.Proof.Region2
public import Idealize.ShloMosaic.Lib.StableHlo.Run

@[expose] public section

set_option maxRecDepth 16384

noncomputable section

namespace Cert.KernelIdeal.Stages

open Idealize.ShloMosaic Idealize.ShloMosaic.TcCoe Idealize.ShloMosaic.StableHlo Idealize.SL.Sem
open Cert.KernelIdeal Cert.KernelIdeal.Gen Cert.Attention

/-- The slice of one of the three projections out of the first region's output, laid out as (token, head, lane). -/
abbrev part (off : Fin 4 → ℕ) (h : S2048x3x8x64.Slices off S2048x1x8x64) (y : FVec Ideal S2048x1536 .f32) : FVec Ideal S2048x8x64 .f32 :=
  shapeCast _ (extractStridedSlice S2048x1x8x64 off (shapeCast S2048x3x8x64 y shapeCasts_S2048x1536_S2048x3x8x64) h) shapeCasts_S2048x1x8x64_S2048x8x64

/-- The tokens' batch numbers, the first column of the index array. -/
abbrev ids (a : IVec S2048x4 32) : IVec S2048 32 :=
  shapeCast _ (extractStridedSlice S2048x1 ![0, 0] a slices_S2048x4_S2048x1_0_0) shapeCasts_S2048x1_S2048

/-- The (head, token, lane) layout of a (token, head, lane) array. -/
abbrev byHead (x : FVec Ideal S2048x8x64 .f32) : FVec Ideal S8x2048x64 .f32 :=
  transpose S8x2048x64 [1, 0, 2] x transposes_S2048x8x64_S8x2048x64_1_0_2

/-- The attention between the re-layouts, from queries, keys and values laid out as (token, head, lane) to the same layout. -/
def heads (g : IVec S2048 32) (q k v : FVec Ideal S2048x8x64 .f32) : FVec Ideal S2048x8x64 .f32 :=
  transpose S2048x8x64 [1, 0, 2] (attend (broadcastInDim S1x2048 ![1] bcast_S2048_S1x2048_1 g) (byHead q) (byHead k) (byHead v))
    transposes_S8x2048x64_S2048x8x64_1_0_2

variable (m : (ℓ : Loc nD τ sig) → Buf (Elt Ideal) ℓ) (ρ : Dev nD → PrngReg)

/-- The first region's output: the projection of the features. -/
abbrev projected (c : Dev nD) : FVec Ideal S2048x1536 .f32 :=
  linear (m ((c.tc : Thread nD τ).loc main_arg0))
    (transpose S512x1536 [1, 0] (m ((c.tc : Thread nD τ).loc main_arg2)) transposes_S1536x512_S512x1536_1_0)
    (broadcastInDim S1x1536 ![1] bcast_S1536_S1x1536_1 (m ((c.tc : Thread nD τ).loc main_arg3)))

theorem at2 (c : Dev nD) : W2 m ρ c (Proc.devRef .tc main_v2) = projected m c := by
  refine (W2_arr m ρ c 3).trans ((final0 (V1 m ρ) c).trans ?_)
  have h0 : V1 m ρ c main_arg0 = m ((c.tc : Thread nD τ).loc main_arg0) := W1_args m ρ c main_arg0 (by decide)
  have h1 : V1 m ρ c main_v0 = transpose S512x1536 [1, 0] (m ((c.tc : Thread nD τ).loc main_arg2)) transposes_S1536x512_S512x1536_1_0 := by
    show after hostOps0 (W0 m ρ c) (Proc.devRef .tc main_v0) = _
    after_results <;> rfl
  have h2 : V1 m ρ c main_v1 = broadcastInDim S1x1536 ![1] bcast_S1536_S1x1536_1 (m ((c.tc : Thread nD τ).loc main_arg3)) := by
    show after hostOps0 (W0 m ρ c) (Proc.devRef .tc main_v1) = _
    after_results <;> rfl
  rw [h0, h1, h2]

/-- The second region's output: the attention of the three slices of the projection. -/
theorem at4 (c : Dev nD) : W4 m ρ c (Proc.devRef .tc main_v16)
    = attend (broadcastInDim S1x2048 ![1] bcast_S2048_S1x2048_1 (ids (m ((c.tc : Thread nD τ).loc main_arg1))))
        (byHead (part ![0, 0, 0, 0] slices_S2048x3x8x64_S2048x1x8x64_0_0_0_0 (projected m c)))
        (byHead (part ![0, 1, 0, 0] slices_S2048x3x8x64_S2048x1x8x64_0_1_0_0 (projected m c)))
        (byHead (part ![0, 2, 0, 0] slices_S2048x3x8x64_S2048x1x8x64_0_2_0_0 (projected m c))) := by
  refine (W4_arr m ρ c 4).trans ((final1 (V3 m ρ) c).trans ?_)
  have a1 : W2 m ρ c (Proc.devRef .tc main_arg1) = m ((c.tc : Thread nD τ).loc main_arg1) := W2_args m ρ c main_arg1 (by decide)
  have h0 : V3 m ρ c main_v15 = broadcastInDim S1x2048 ![1] bcast_S2048_S1x2048_1 (ids (W2 m ρ c (Proc.devRef .tc main_arg1))) := by
    show after hostOps1 (W2 m ρ c) (Proc.devRef .tc main_v15) = _
    after_results <;> rfl
  have h1 : V3 m ρ c main_v6 = byHead (part ![0, 0, 0, 0] slices_S2048x3x8x64_S2048x1x8x64_0_0_0_0 (W2 m ρ c (Proc.devRef .tc main_v2))) := by
    show after hostOps1 (W2 m ρ c) (Proc.devRef .tc main_v6) = _
    after_results <;> rfl
  have h2 : V3 m ρ c main_v9 = byHead (part ![0, 1, 0, 0] slices_S2048x3x8x64_S2048x1x8x64_0_1_0_0 (W2 m ρ c (Proc.devRef .tc main_v2))) := by
    show after hostOps1 (W2 m ρ c) (Proc.devRef .tc main_v9) = _
    after_results <;> rfl
  have h3 : V3 m ρ c main_v12 = byHead (part ![0, 2, 0, 0] slices_S2048x3x8x64_S2048x1x8x64_0_2_0_0 (W2 m ρ c (Proc.devRef .tc main_v2))) := by
    show after hostOps1 (W2 m ρ c) (Proc.devRef .tc main_v12) = _
    after_results <;> rfl
  rw [h0, h1, h2, h3, a1, at2]

/-- The result array: the last region's output. -/
theorem at6 (c : Dev nD) : W6 m ρ c (Proc.devRef .tc main_v21)
    = linear
        (shapeCast S2048x512 (heads (ids (m ((c.tc : Thread nD τ).loc main_arg1)))
          (part ![0, 0, 0, 0] slices_S2048x3x8x64_S2048x1x8x64_0_0_0_0 (projected m c))
          (part ![0, 1, 0, 0] slices_S2048x3x8x64_S2048x1x8x64_0_1_0_0 (projected m c))
          (part ![0, 2, 0, 0] slices_S2048x3x8x64_S2048x1x8x64_0_2_0_0 (projected m c))) shapeCasts_S2048x8x64_S2048x512)
        (transpose S512x512 [1, 0] (m ((c.tc : Thread nD τ).loc main_arg4)) transposes_S512x512_S512x512_1_0)
        (broadcastInDim S1x512 ![1] bcast_S512_S1x512_1 (m ((c.tc : Thread nD τ).loc main_arg5))) := by
  refine (W6_arr m ρ c 3).trans ((final2 (V5 m ρ) c).trans ?_)
  have a4 : W4 m ρ c (Proc.devRef .tc main_arg4) = m ((c.tc : Thread nD τ).loc main_arg4) := W4_args m ρ c main_arg4 (by decide)
  have a5 : W4 m ρ c (Proc.devRef .tc main_arg5) = m ((c.tc : Thread nD τ).loc main_arg5) := W4_args m ρ c main_arg5 (by decide)
  have h0 : V5 m ρ c main_v18 = shapeCast S2048x512 (transpose S2048x8x64 [1, 0, 2] (W4 m ρ c (Proc.devRef .tc main_v16))
      transposes_S8x2048x64_S2048x8x64_1_0_2) shapeCasts_S2048x8x64_S2048x512 := by
    show after hostOps2 (W4 m ρ c) (Proc.devRef .tc main_v18) = _
    after_results <;> rfl
  have h1 : V5 m ρ c main_v19 = transpose S512x512 [1, 0] (W4 m ρ c (Proc.devRef .tc main_arg4)) transposes_S512x512_S512x512_1_0 := by
    show after hostOps2 (W4 m ρ c) (Proc.devRef .tc main_v19) = _
    after_results <;> rfl
  have h2 : V5 m ρ c main_v20 = broadcastInDim S1x512 ![1] bcast_S512_S1x512_1 (W4 m ρ c (Proc.devRef .tc main_arg5)) := by
    show after hostOps2 (W4 m ρ c) (Proc.devRef .tc main_v20) = _
    after_results <;> rfl
  rw [h0, h1, h2, a4, a5, at4, heads]

/-- The attention between the re-layouts, entry by entry. -/
theorem heads_at (g : IVec S2048 32) (q k v : FVec Ideal S2048x8x64 .f32) (n : Fin 2048) (h : Fin 8) (d : Fin 64) :
    heads g q k v (ix3 n h d)
      = attendEntry (g (ix1 n)) (fun i => g (ix1 i)) (fun e => q (ix3 n h e)) (fun i e => k (ix3 i h e)) (fun i => v (ix3 i h d)) := by
  pointwise [heads, attend]

end Cert.KernelIdeal.Stages

end
-- ==== Proof.Reference.lean ====
/- The reference's result: the same linear layers and masked attention, between the same slices and re-layouts. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Stages

open Idealize.ShloMosaic Idealize.ShloMosaic.TcCoe Cert.ReferenceIdeal Cert.ReferenceIdeal.Gen Cert.ReferenceIdeal.Value Cert.Attention

/-- The first linear layer as the reference writes it. -/
def proj (x : FVec Ideal S2048x512 .f32) (w : FVec Ideal S512x1536 .f32) (b : FVec Ideal S1x1536 .f32) : FVec Ideal S2048x1536 .f32 :=
  addf (Host.dotGeneral dot_S2048x512_S512x1536_S2048x1536_1_0_0_1_n_n none x w)
    (broadcastInDim S2048x1536 ![0, 1] bcast_S1x1536_S2048x1536_0_1 b)

theorem proj_eq (x : FVec Ideal S2048x512 .f32) (w : FVec Ideal S512x1536 .f32) (b : FVec Ideal S1x1536 .f32) :
    proj x w b = linear x w b := by
  funext j
  idx_vars j
  simp only [linear]
  pointwise [proj]

/-- The last linear layer as the reference writes it. -/
def outp (x : FVec Ideal S2048x512 .f32) (w : FVec Ideal S512x512 .f32) (b : FVec Ideal S1x512 .f32) : FVec Ideal S2048x512 .f32 :=
  addf (Host.dotGeneral dot_S2048x512_S512x512_S2048x512_1_0_0_1_n_n none x w)
    (broadcastInDim S2048x512 ![0, 1] bcast_S1x512_S2048x512_0_1 b)

theorem outp_eq (x : FVec Ideal S2048x512 .f32) (w : FVec Ideal S512x512 .f32) (b : FVec Ideal S1x512 .f32) :
    outp x w b = linear x w b := by
  funext j
  idx_vars j
  simp only [linear]
  pointwise [outp]

/-- The masked scores as the reference writes them, of the batch numbers `g` and of queries and keys laid out as
    (token, head, lane). -/
def scores (g : IVec S2048 32) (q k : FVec Ideal S2048x8x64 .f32) : FVec Ideal S8x2048x2048 .f32 :=
  select
    (broadcastInDim S8x2048x2048 ![0, 1, 2] bcast_S1x2048x2048_S8x2048x2048_0_1_2 (broadcastInDim S1x2048x2048 ![1, 2] bcast_S2048x2048_S1x2048x2048_1_2
      (cmpi .eq (broadcastInDim S2048x2048 ![0, 1] bcast_S2048x1_S2048x2048_0_1 (broadcastInDim S2048x1 ![0] bcast_S2048_S2048x1_0 g))
        (broadcastInDim S2048x2048 ![0, 1] bcast_S1x2048_S2048x2048_0_1 (broadcastInDim S1x2048 ![1] bcast_S2048_S1x2048_1 g)))))
    (mulf (Host.dotGeneral dot_S2048x8x64_S2048x8x64_S8x2048x2048_2_2_0_0_1_1 none q k)
      (broadcastInDim S8x2048x2048 ![] bcast_S_S8x2048x2048 (constant S_ .f32 0x3E000000#32)))
    (broadcastInDim S8x2048x2048 ![] bcast_S_S8x2048x2048 (id (constant S_ .f32 0xCE6E6B28#32)))

theorem scores_at (g : IVec S2048 32) (q k : FVec Ideal S2048x8x64 .f32) (h : Fin 8) (n l : Fin 2048) :
    scores g q k (ix3 h n l)
      = score (g (ix1 n)) (fun i => g (ix1 i)) (fun e => q (ix3 n h e)) (fun i e => k (ix3 i h e)) l := by
  pointwise [scores]
  simp only [select_eq]
  rfl

/-- The greatest score of each row as the reference writes it. -/
def rowMax (s : FVec Ideal S8x2048x2048 .f32) : FVec Ideal S8x2048 .f32 :=
  Host.reduce (FloatOps.maximumf (F := Ideal) (φ := .f32)) s (constant S_ .f32 0xFF800000#32) reducesTo_S8x2048x2048_S8x2048_d2 h_S_

theorem rowMax_at (s : FVec Ideal S8x2048x2048 .f32) (h : Fin 8) (n : Fin 2048) :
    rowMax s (ix2 h n) = top (fun i => s (ix3 h n i)) := by
  simp only [top]
  pointwise [rowMax]

/-- The exponentials of scores less a row value `t`, or the fold's start where that is greater. -/
def expsFrom (s : FVec Ideal S8x2048x2048 .f32) (t : FVec Ideal S8x2048 .f32) : FVec Ideal S8x2048x2048 .f32 :=
  Host.exp (subf s (broadcastInDim S8x2048x2048 ![0, 1, 2] bcast_S8x2048x1_S8x2048x2048_0_1_2 (broadcastInDim S8x2048x1 ![0, 1] bcast_S8x2048_S8x2048x1_0_1
    (maximumf (broadcastInDim S8x2048 ![] bcast_S_S8x2048 (constant S_ .f32 0xFF800000#32)) t))))

theorem expsFrom_at (s : FVec Ideal S8x2048x2048 .f32) (t : FVec Ideal S8x2048 .f32) (h : Fin 8) (n l : Fin 2048) :
    expsFrom s t (ix3 h n l) = Ideal.exp (s (ix3 h n l) - max (Ideal.ofBits .f32 0xFF800000#32) (t (ix2 h n))) := by
  pointwise [expsFrom]

/-- The exponentials of the scores less the row's greatest, as the reference writes them. -/
def exps (s : FVec Ideal S8x2048x2048 .f32) : FVec Ideal S8x2048x2048 .f32 := expsFrom s (rowMax s)

theorem exps_at (s : FVec Ideal S8x2048x2048 .f32) (h : Fin 8) (n l : Fin 2048) :
    exps s (ix3 h n l) = Ideal.exp (s (ix3 h n l) - top (fun i => s (ix3 h n i))) := by
  rw [exps, expsFrom_at, rowMax_at, max_top]

/-- The softmax of the scores as the reference writes it. -/
def weights (s : FVec Ideal S8x2048x2048 .f32) : FVec Ideal S8x2048x2048 .f32 :=
  Host.divf (exps s) (broadcastInDim S8x2048x2048 ![0, 1, 2] bcast_S8x2048x1_S8x2048x2048_0_1_2 (broadcastInDim S8x2048x1 ![0, 1] bcast_S8x2048_S8x2048x1_0_1
    (Host.reduceAdd (exps s) (constant S_ .f32 0x00000000#32) reducesTo_S8x2048x2048_S8x2048_d2 h_S_)))

theorem weights_at (s : FVec Ideal S8x2048x2048 .f32) (h : Fin 8) (n l : Fin 2048) :
    weights s (ix3 h n l) = softmax (fun i => s (ix3 h n i)) l := by
  pointwise [weights]
  simp only [exps_at]
  rfl

/-- The attention as the reference writes it, laid out as (token, head, lane). -/
def heads (g : IVec S2048 32) (q k v : FVec Ideal S2048x8x64 .f32) : FVec Ideal S2048x8x64 .f32 :=
  transpose S2048x8x64 [2, 0, 1]
    (Host.dotGeneral dot_S2048x8x64_S8x2048x2048_S8x64x2048_0_2_2_1_1_0 none v (weights (scores g q k)))
    transposes_S8x64x2048_S2048x8x64_2_0_1

theorem heads_at (g : IVec S2048 32) (q k v : FVec Ideal S2048x8x64 .f32) (n : Fin 2048) (h : Fin 8) (d : Fin 64) :
    heads g q k v (ix3 n h d)
      = attendEntry (g (ix1 n)) (fun i => g (ix1 i)) (fun e => q (ix3 n h e)) (fun i e => k (ix3 i h e)) (fun i => v (ix3 i h d)) := by
  pointwise [heads]
  simp only [weights_at, scores_at, mul_comm (v _)]
  rfl

/-- The whole reference in these stages. -/
theorem result (m : (ℓ : Loc nD τ sig) → Buf (Elt Ideal) ℓ) (c : Dev nD) :
    res_out0 (F := Ideal) m c =
      let y := linear (m ((c.tc : Thread nD τ).loc main_arg0))
        (transpose S512x1536 [1, 0] (m ((c.tc : Thread nD τ).loc main_arg2)) transposes_S1536x512_S512x1536_1_0)
        (broadcastInDim S1x1536 ![1] bcast_S1536_S1x1536_1 (m ((c.tc : Thread nD τ).loc main_arg3)))
      let p : FVec Ideal S2048x3x8x64 .f32 := shapeCast _ y shapeCasts_S2048x1536_S2048x3x8x64
      linear
        (shapeCast _ (heads (shapeCast _ (extractStridedSlice S2048x1 ![0, 0] (m ((c.tc : Thread nD τ).loc main_arg1)) slices_S2048x4_S2048x1_0_0) shapeCasts_S2048x1_S2048)
          (shapeCast _ (extractStridedSlice S2048x1x8x64 ![0, 0, 0, 0] p slices_S2048x3x8x64_S2048x1x8x64_0_0_0_0) shapeCasts_S2048x1x8x64_S2048x8x64)
          (shapeCast _ (extractStridedSlice S2048x1x8x64 ![0, 1, 0, 0] p slices_S2048x3x8x64_S2048x1x8x64_0_1_0_0) shapeCasts_S2048x1x8x64_S2048x8x64)
          (shapeCast _ (extractStridedSlice S2048x1x8x64 ![0, 2, 0, 0] p slices_S2048x3x8x64_S2048x1x8x64_0_2_0_0) shapeCasts_S2048x1x8x64_S2048x8x64)) shapeCasts_S2048x8x64_S2048x512)
        (transpose S512x512 [1, 0] (m ((c.tc : Thread nD τ).loc main_arg4)) transposes_S512x512_S512x512_1_0)
        (broadcastInDim S1x512 ![1] bcast_S512_S1x512_1 (m ((c.tc : Thread nD τ).loc main_arg5))) := by
  dsimp only
  rw [← proj_eq, ← outp_eq]
  rfl

end Cert.ReferenceIdeal.Stages

end
-- ==== Proof.Equal.lean ====
/- The two programs' results are one function of the arguments. -/
module

public import proofs.«01_k».proof.Proof.Value
public import proofs.«01_k».proof.Proof.Reference

@[expose] public section

set_option maxRecDepth 16384

noncomputable section

namespace Cert.Attention

open Idealize.ShloMosaic Idealize.ShloMosaic.TcCoe Idealize.SL.Sem

/-- The attention of both programs, between the same layouts, is one function. -/
theorem heads_eq (g : IVec Cert.KernelIdeal.S2048 32) (q k v : FVec Ideal Cert.KernelIdeal.S2048x8x64 .f32) :
    Cert.ReferenceIdeal.Stages.heads g q k v = Cert.KernelIdeal.Stages.heads g q k v := by
  funext j
  idx_vars j
  exact (Cert.ReferenceIdeal.Stages.heads_at g q k v _ _ _).trans (Cert.KernelIdeal.Stages.heads_at g q k v _ _ _).symm

/-- From memories that agree on the arguments the reference's result is the kernel's. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_out0 (F := Ideal) m' c
      = Cert.KernelIdeal.Gen.W6 m ρ c (Proc.devRef .tc Cert.KernelIdeal.main_v21) := by
  obtain ⟨h0, h1, h2, h3, h4, h5⟩ := h
  rw [Cert.KernelIdeal.Stages.at6, ← heads_eq]
  refine (Cert.ReferenceIdeal.Stages.result m' c).trans ?_
  dsimp only
  rw [h0, h1, h2, h3, h4, h5]

end Cert.Attention

end
-- ==== Proof.lean ====
/- The five claims about the kernel: both readings of the kernel and the reference run to the end and leave their arguments
   as they were, the ideal reading is the kernel's own text, and over the extended reals the kernel ends with the
   reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates with its arguments as launched and every counter at zero. -/
theorem reference_frame : Cert.quiescent_ReferenceIdeal (hReferenceIdeal := Cert.ReferenceIdeal.Gen.facts) := by
  intro m g _
  exact θ_run_mono (Cert.ReferenceIdeal.Value.run m g) fun r h => ⟨fun c => (h c).2, sem_eq_zero_of_no_sems (by decide) r.2⟩

/-- From memories that agree on the arguments, kernel and reference end with equal results. -/
theorem value : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.W6 m g c (Proc.devRef .tc Cert.KernelIdeal.main_v21), ?_, ?_⟩
  · exact θ_run_mono (Cert.KernelIdeal.Gen.run_result m g) fun r h => h.1
  · exact θ_run_mono (Cert.ReferenceIdeal.Value.run m' g') fun r h c =>
      ⟨(h c).1.trans (Cert.Attention.results_eq m g m' c (hagree c)), (h c).2⟩

/-- All the claims together. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, value⟩

end Cert.Proof

end
